-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def algebraic_KernelIdeal_ReferenceIdeal_on_selected_above_minus_infinity [hKernelIdeal : Cert.KernelIdeal.Facts] [hReferenceIdeal : Cert.ReferenceIdeal.Facts] [hOn_selected_above_minus_infinity : Cert.On_selected_above_minus_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![32768, 8]⟩ : Shape).Idx, (Cert.On_selected_above_minus_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.KernelIdeal.nD Cert.KernelIdeal.τ).loc Cert.KernelIdeal.main_v2) i = v0 c i)
          ∧ (∀ i : (⟨2, ![32768, 8]⟩ : Shape).Idx, (Cert.On_selected_above_minus_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 i = 1#1 → r.2.mem ((c.tc : Thread Cert.KernelIdeal.nD Cert.KernelIdeal.τ).loc Cert.KernelIdeal.main_v3) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![32768, 8]⟩ : Shape).Idx, (Cert.On_selected_above_minus_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.ReferenceIdeal.nD Cert.ReferenceIdeal.τ).loc Cert.ReferenceIdeal.main_v15) i = v0 c i)
          ∧ (∀ i : (⟨2, ![32768, 8]⟩ : Shape).Idx, (Cert.On_selected_above_minus_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 i = 1#1 → r.2.mem ((c.tc : Thread Cert.ReferenceIdeal.nD Cert.ReferenceIdeal.τ).loc Cert.ReferenceIdeal.main_indices) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts) (hOn_selected_above_minus_infinity : Cert.On_selected_above_minus_infinity.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ algebraic_KernelIdeal_ReferenceIdeal_on_selected_above_minus_infinity (hKernelIdeal := hKernelIdeal) (hReferenceIdeal := hReferenceIdeal) (hOn_selected_above_minus_infinity := hOn_selected_above_minus_infinity)
-- ==== On_selected_above_minus_infinity.lean ====
abbrev S32768x768 : Shape := ⟨2, ![32768, 768]⟩
abbrev S64x768 : Shape := ⟨2, ![64, 768]⟩
abbrev S64 : Shape := ⟨1, ![64]⟩
abbrev S768x64 : Shape := ⟨2, ![768, 64]⟩
abbrev S32768x64 : Shape := ⟨2, ![32768, 64]⟩
abbrev S1x64 : Shape := ⟨2, ![1, 64]⟩
abbrev S32768x8 : Shape := ⟨2, ![32768, 8]⟩
abbrev S_ : Shape := ⟨0, ![]⟩

class Facts : Prop where
  transposes_S64x768_S768x64_1_0 : S64x768.Transposes [1, 0] S768x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  sliceFits_S32768x64_S32768x8 : S32768x64.Slices (fun _ => 0) S32768x8
  bcast_S_S32768x8 : S_.BroadcastsInDim S32768x8 (![] : Fin 0 → Fin S32768x8.rank)
  dot_S32768x768_S768x64_S32768x64_1_0_0_1_n_n_wf : DotDims.WF S32768x768 S768x64 S32768x64 [1] [0] [0] [1] [] []

variable [Facts]

def dot_S32768x768_S768x64_S32768x64_1_0_0_1_n_n : DotDims S32768x768 S768x64 S32768x64 where
  lhsContracting := [1]
  rhsContracting := [0]
  lhsNonContracting := [0]
  rhsNonContracting := [1]
  lhsBatch := []
  rhsBatch := []
  wf := dot_S32768x768_S768x64_S32768x64_1_0_0_1_n_n_wf
def fn {F : FTy → Type} [FloatOps F] (main_arg0 : FVec F S32768x768 .f32) (main_arg1 : FVec F S64x768 .f32) (main_arg2 : FVec F S64 .f32) : IVec S32768x8 1 × IVec S32768x8 1 :=
  let main_v0 : FVec F S768x64 .f32 := (transpose S768x64 [1, 0] · transposes_S64x768_S768x64_1_0) main_arg1
  let main_v1 : FVec F S32768x64 .f32 := (fun l r => Host.dotGeneral dot_S32768x768_S768x64_S32768x64_1_0_0_1_n_n none l r) main_arg0 main_v0
  let main_v2 : FVec F S1x64 .f32 := broadcastInDim S1x64 ![1] bcast_S64_S1x64_1 main_arg2
  let main_v3 : FVec F S32768x64 .f32 := broadcastInDim S32768x64 ![0, 1] bcast_S1x64_S32768x64_0_1 main_v2
  let main_v4 : FVec F S32768x64 .f32 := addf main_v1 main_v3
  let main_values : FVec F S32768x8 .f32 := (fun x => (Host.topK S32768x8 1 (FloatOps.cmpfTotal .gt) x sliceFits_S32768x64_S32768x8).1) main_v4
  let main_indices : IVec S32768x8 32 := (fun x => (Host.topK S32768x8 1 (FloatOps.cmpfTotal .gt) x sliceFits_S32768x64_S32768x8).2) main_v4
  let main_c : IVec S_ 1 := constantI S_ 1 1#1
  let main_v5 : IVec S32768x8 1 := broadcastInDim S32768x8 ![] bcast_S_S32768x8 main_c
  let main_cst : FVec F S_ .f32 := constant S_ .f32 0xFF800000#32
  let main_v6 : FVec F S32768x8 .f32 := broadcastInDim S32768x8 ![] bcast_S_S32768x8 main_cst
  let main_v7 : IVec S32768x8 1 := cmpf .ogt main_values main_v6
  (main_v5, main_v7)
-- ==== Pre_finite_inputs.lean ====
abbrev S32768x768 : Shape := ⟨2, ![32768, 768]⟩
abbrev S64x768 : Shape := ⟨2, ![64, 768]⟩
abbrev S64 : Shape := ⟨1, ![64]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S64x768 : S_.BroadcastsInDim S64x768 (![] : Fin 0 → Fin S64x768.rank)
  reducesTo_S64x768_S_d0_1 : S64x768.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S32768x768 .f32) (main_arg1 : FVec F S64x768 .f32) (main_arg2 : FVec F S64 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S32768x768 : Shape := ⟨2, ![32768, 768]⟩
abbrev S64x768 : Shape := ⟨2, ![64, 768]⟩
abbrev S64 : Shape := ⟨1, ![64]⟩
abbrev S64x1 : Shape := ⟨2, ![64, 1]⟩
abbrev S8x32768 : Shape := ⟨2, ![8, 32768]⟩
abbrev S4096x768 : Shape := ⟨2, ![4096, 768]⟩
abbrev S8x4096 : Shape := ⟨2, ![8, 4096]⟩
abbrev S64x4096 : Shape := ⟨2, ![64, 4096]⟩
abbrev S32x4096 : Shape := ⟨2, ![32, 4096]⟩
abbrev S4096 : Shape := ⟨1, ![4096]⟩
abbrev S1x4096 : Shape := ⟨2, ![1, 4096]⟩
abbrev S32768x8 : Shape := ⟨2, ![32768, 8]⟩

abbrev nBuf : Space → Nat
  | .hbm => 8
  | .vmem => 8
  | .smem => 0
  | _ => 0

abbrev bufTy : (tb : Table) → Fin (tcTables nBuf tb) → BufTy
  | .hbm, ⟨0, _⟩ => ⟨S32768x768, .f32⟩
  | .hbm, ⟨1, _⟩ => ⟨S64x768, .f32⟩
  | .hbm, ⟨2, _⟩ => ⟨S64, .f32⟩
  | .hbm, ⟨3, _⟩ => ⟨S64x1, .f32⟩
  | .hbm, ⟨4, _⟩ => ⟨S8x32768, .f32⟩
  | .hbm, ⟨5, _⟩ => ⟨S8x32768, .i32⟩
  | .hbm, ⟨6, _⟩ => ⟨S32768x8, .f32⟩
  | .hbm, ⟨7, _⟩ => ⟨S32768x8, .i32⟩
  | .local _ .vmem, ⟨0, _⟩ => ⟨S4096x768, .f32⟩
  | .local _ .vmem, ⟨1, _⟩ => ⟨S4096x768, .f32⟩
  | .local _ .vmem, ⟨2, _⟩ => ⟨S64x768, .f32⟩
  | .local _ .vmem, ⟨3, _⟩ => ⟨S64x1, .f32⟩
  | .local _ .vmem, ⟨4, _⟩ => ⟨S8x4096, .f32⟩
  | .local _ .vmem, ⟨5, _⟩ => ⟨S8x4096, .f32⟩
  | .local _ .vmem, ⟨6, _⟩ => ⟨S8x4096, .i32⟩
  | .local _ .vmem, ⟨7, _⟩ => ⟨S8x4096, .i32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x4096 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S32768x768 : Shape := ⟨2, ![32768, 768]⟩
abbrev S64x768 : Shape := ⟨2, ![64, 768]⟩
abbrev S64 : Shape := ⟨1, ![64]⟩
abbrev S768x64 : Shape := ⟨2, ![768, 64]⟩
abbrev S32768x64 : Shape := ⟨2, ![32768, 64]⟩
abbrev S1x64 : Shape := ⟨2, ![1, 64]⟩
abbrev S32768x8 : Shape := ⟨2, ![32768, 8]⟩
abbrev S_ : Shape := ⟨0, ![]⟩
abbrev S32768 : Shape := ⟨1, ![32768]⟩
abbrev S32768x1 : Shape := ⟨2, ![32768, 1]⟩

abbrev nBuf : Space → Nat
  | .hbm => 24
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S64x768, .f32⟩
  | .hbm, ⟨2, _⟩ => ⟨S64, .f32⟩
  | .hbm, ⟨3, _⟩ => ⟨S768x64, .f32⟩
  | .hbm, ⟨4, _⟩ => ⟨S32768x64, .f32⟩
  | .hbm, ⟨5, _⟩ => ⟨S1x64, .f32⟩
  | .hbm, ⟨6, _⟩ => ⟨S32768x64, .f32⟩
  | .hbm, ⟨7, _⟩ => ⟨S32768x64, .f32⟩
  | .hbm, ⟨8, _⟩ => ⟨S32768x8, .f32⟩
  | .hbm, ⟨9, _⟩ => ⟨S32768x8, .i32⟩
  | .hbm, ⟨10, _⟩ => ⟨S_, .f32⟩
  | .hbm, ⟨11, _⟩ => ⟨S32768, .f32⟩
  | .hbm, ⟨12, _⟩ => ⟨S_, .f32⟩
  | .hbm, ⟨13, _⟩ => ⟨S32768, .f32⟩
  | .hbm, ⟨14, _⟩ => ⟨S32768, .f32⟩
  | .hbm, ⟨15, _⟩ => ⟨S32768x1, .f32⟩
  | .hbm, ⟨16, _⟩ => ⟨S32768x8, .f32⟩
  | .hbm, ⟨17, _⟩ => ⟨S32768x8, .f32⟩
  | .hbm, ⟨18, _⟩ => ⟨S32768x8, .f32⟩
  | .hbm, ⟨19, _⟩ => ⟨S_, .f32⟩
  | .hbm, ⟨20, _⟩ => ⟨S32768, .f32⟩
  | .hbm, ⟨21, _⟩ => ⟨S32768x1, .f32⟩
  | .hbm, ⟨22, _⟩ => ⟨S32768x8, .f32⟩
  | .hbm, ⟨23, _⟩ => ⟨S32768x8, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_values : Ref sig .tc := ⟨.hbm, 8, rfl⟩
abbrev main_indices : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Proof.Block.lean ====
/-
  The kernel's block program, round by round.

  `St` is the tournament's state as the kernel's vectors; `topV`, `pickV`, `hitV`, `stepV` are one round's printed
  operations, `putV` the select that records a round's row, `weightsV` and `indicesV` what is stored. `stored_weights`
  and `stored_indices` say that the generated payloads are these, round after round, for any float values.
-/
module

public import proofs.«01_k».proof.Proof.Gen.KernelIdeal
public import proofs.«01_k».proof.Proof.Gen.KernelIdeal.Skeleton
public import proofs.«01_k».proof.Proof.Gen.KernelIdeal.Frame
public import Idealize.ShloMosaic.Lib.Pipeline.Value

@[expose] public section

noncomputable section

namespace Cert.Proof

open Idealize.ShloMosaic Cert.KernelIdeal Cert.KernelIdeal.Gen

variable {F : FTy → Type} [FloatOps F]

/-- The tournament's state on a block of 4096 tokens. -/
structure St (F : FTy → Type) where
  /-- the values in play -/
  wv : FVec F S32x4096 .f32
  /-- their indices -/
  wi : FVec F S32x4096 .f32
  /-- the values behind them -/
  lv : FVec F S32x4096 .f32

/-- A round's greatest value of each column, as one row. -/
def topV (s : St F) : FVec F S1x4096 .f32 :=
  shapeCast S1x4096 (multiReduction .maximumf [0] S4096 s.wv 0xFF800000#32 reduces_S32x4096_S4096 (.inl rfl) rfl)
    shapeCasts_S4096_S1x4096

/-- The least index that shows it, as one row. -/
def pickV (s : St F) : FVec F S1x4096 .f32 :=
  shapeCast S1x4096 (multiReduction .minimumf [0] S4096
    (select (cmpf .oeq s.wv (broadcastTo S32x4096 (topV s) broadcasts_S1x4096_S32x4096)) s.wi
      (broadcast S32x4096 (Scalar.ofBits .f32 0x42800000#32)))
    0x7F800000#32 reduces_S32x4096_S4096 (.inl rfl) rfl) shapeCasts_S4096_S1x4096

/-- Where that index is in play. -/
def hitV (s : St F) : IVec S32x4096 1 :=
  cmpf .oeq s.wi (broadcastTo S32x4096 (pickV s) broadcasts_S1x4096_S32x4096)

/-- The state after the round; `li` holds the indices behind. -/
def stepV (li : FVec F S32x4096 .f32) (s : St F) : St F where
  wv := select (hitV s) s.lv s.wv
  wi := select (hitV s) li s.wi
  lv := select (hitV s) (broadcast S32x4096 (Scalar.ofBits .f32 0xFF800000#32)) s.lv

/-- Row `k` of `acc` replaced by `row`. -/
def putV (n : IVec S8x4096 32) (k : BitVec 32) (row : FVec F S1x4096 .f32) (acc : FVec F S8x4096 .f32) : FVec F S8x4096 .f32 :=
  select (cmpi .eq n (broadcast S8x4096 k))
    (broadcastTo S8x4096 (shapeCast S1x4096 row shapeCasts_S1x4096_S1x4096) broadcasts_S1x4096_S8x4096) acc

/-- The rows' numbers. -/
def rowsV : IVec S8x4096 32 := iota .tc S8x4096 32 [0] iota_S8x4096_d0_w32

/-- The eight recorded rows, from a zero block. -/
def rows8 (row : ℕ → FVec F S1x4096 .f32) : FVec F S8x4096 .f32 :=
  putV rowsV 7#32 (row 7) (putV rowsV 6#32 (row 6) (putV rowsV 5#32 (row 5) (putV rowsV 4#32 (row 4)
    (putV rowsV 3#32 (row 3) (putV rowsV 2#32 (row 2) (putV rowsV 1#32 (row 1) (putV rowsV 0#32 (row 0)
      (broadcast S8x4096 (Scalar.ofBits .f32 0x00000000#32)))))))))

/-- The exponentials of the recorded values less the first. -/
def expV (v : FVec F S8x4096 .f32) : FVec F S8x4096 .f32 :=
  exp (subf v (broadcastTo S8x4096 (extractStridedSlice S1x4096 ![0, 0] v slices_S8x4096_o0_0_S1x4096) broadcasts_S1x4096_S8x4096))

/-- The stored weights of the recorded values. -/
def softV (v : FVec F S8x4096 .f32) : FVec F S8x4096 .f32 :=
  divf (expV v) (broadcastTo S8x4096 (shapeCast S1x4096
    (multiReduction .add [0] S4096 (expV v) 0x00000000#32 reduces_S8x4096_S4096 (.inl rfl) rfl) shapeCasts_S4096_S1x4096)
    broadcasts_S1x4096_S8x4096)

variable (x0 : Vec F S4096x768 .f32) (x1 : Vec F S64x768 .f32) (x2 : Vec F S64x1 .f32)

/-- The state at the start of the block whose inputs are `x0`, `x1`, `x2`. -/
def startV : St F := ⟨k0_pay10 x0 x1 x2, k0_pay11 x0 x1 x2, k0_pay12 x0 x1 x2⟩

/-- The state after `k` rounds. -/
def afterV : ℕ → St F
  | 0 => startV x0 x1 x2
  | k + 1 => stepV (k0_pay13 x0 x1 x2) (afterV k)

section parts
variable (n : IVec S8x4096 32) (li : FVec F S32x4096 .f32) (s : St F) (acc : FVec F S8x4096 .f32)

/-! One printed part carries a state through two rounds: the second part's payloads from a state and its hits. -/

/-- Rounds 1 and 2: the winners after them. -/
theorem part2_wv : k0_pay25 s.wv s.wi s.lv li (hitV s) = (stepV li (stepV li s)).wv := rfl
/-- Rounds 1 and 2: the winners' indices after them. -/
theorem part2_wi : k0_pay26 s.wv s.wi s.lv li (hitV s) = (stepV li (stepV li s)).wi := rfl
/-- Rounds 1 and 2: the losers after them. -/
theorem part2_lv : k0_pay27 s.wv s.wi s.lv li (hitV s) = (stepV li (stepV li s)).lv := rfl
/-- Rounds 1 and 2: the pairs hit next. -/
theorem part2_hit : k0_pay32 s.wv s.wi s.lv li (hitV s) = hitV (stepV li (stepV li s)) := rfl
/-- Rounds 1 and 2: the values recorded. -/
theorem part2_vals : k0_pay30 n s.wv s.wi s.lv li acc (hitV s)
    = putV n 2#32 (topV (stepV li (stepV li s))) (putV n 1#32 (topV (stepV li s)) acc) := rfl
/-- Rounds 1 and 2: the indices recorded. -/
theorem part2_idxs : k0_pay31 n s.wv s.wi s.lv li acc (hitV s)
    = putV n 2#32 (pickV (stepV li (stepV li s))) (putV n 1#32 (pickV (stepV li s)) acc) := rfl

/-! The third part's. -/

/-- Rounds 3 and 4: the winners after them. -/
theorem part3_wv : k0_pay39 li s.wv s.wi s.lv (hitV s) = (stepV li (stepV li s)).wv := rfl
/-- Rounds 3 and 4: the winners' indices after them. -/
theorem part3_wi : k0_pay40 li s.wv s.wi s.lv (hitV s) = (stepV li (stepV li s)).wi := rfl
/-- Rounds 3 and 4: the losers after them. -/
theorem part3_lv : k0_pay41 li s.wv s.wi s.lv (hitV s) = (stepV li (stepV li s)).lv := rfl
/-- Rounds 3 and 4: the pairs hit next. -/
theorem part3_hit : k0_pay46 li s.wv s.wi s.lv (hitV s) = hitV (stepV li (stepV li s)) := rfl
/-- Rounds 3 and 4: the values recorded. -/
theorem part3_vals : k0_pay44 n li s.wv s.wi s.lv acc (hitV s)
    = putV n 4#32 (topV (stepV li (stepV li s))) (putV n 3#32 (topV (stepV li s)) acc) := rfl
/-- Rounds 3 and 4: the indices recorded. -/
theorem part3_idxs : k0_pay45 n li s.wv s.wi s.lv acc (hitV s)
    = putV n 4#32 (pickV (stepV li (stepV li s))) (putV n 3#32 (pickV (stepV li s)) acc) := rfl

/-! The fourth part's. -/

/-- Rounds 5 and 6: the winners after them. -/
theorem part4_wv : k0_pay53 li s.wv s.wi s.lv (hitV s) = (stepV li (stepV li s)).wv := rfl
/-- Rounds 5 and 6: the winners' indices after them. -/
theorem part4_wi : k0_pay54 li s.wv s.wi s.lv (hitV s) = (stepV li (stepV li s)).wi := rfl
/-- Rounds 5 and 6: the losers after them. -/
theorem part4_lv : k0_pay55 li s.wv s.wi s.lv (hitV s) = (stepV li (stepV li s)).lv := rfl
/-- Rounds 5 and 6: the pairs hit next. -/
theorem part4_hit : k0_pay60 li s.wv s.wi s.lv (hitV s) = hitV (stepV li (stepV li s)) := rfl
/-- Rounds 5 and 6: the values recorded. -/
theorem part4_vals : k0_pay58 n li s.wv s.wi s.lv acc (hitV s)
    = putV n 6#32 (topV (stepV li (stepV li s))) (putV n 5#32 (topV (stepV li s)) acc) := rfl
/-- Rounds 5 and 6: the indices recorded. -/
theorem part4_idxs : k0_pay59 n li s.wv s.wi s.lv acc (hitV s)
    = putV n 6#32 (pickV (stepV li (stepV li s))) (putV n 5#32 (pickV (stepV li s)) acc) := rfl

/-! The two stores. -/

/-- Round 7 and the softmax of the recorded values. -/
theorem last_vals : k0_pay3 n s.wv s.lv acc (hitV s) = softV (putV n 7#32 (topV (stepV li s)) acc) := rfl
/-- Round 7 and the recorded indices as integers. -/
theorem last_idxs : k0_pay4 n li s.wv s.wi s.lv acc (hitV s) = fptosi 32 (putV n 7#32 (pickV (stepV li s)) acc) := rfl
end parts

/-! What the generated frame names, in the rounds' terms. -/

section frame

/-- The corner that each load reads from. -/
theorem origin : (![0, 0] : Fin 2 → Nat) = fun _ => 0 := funext fun a => by fin_cases a <;> rfl

/-- The load of hidden states reads the whole block. -/
theorem ld0 : View.ld x0 r0_0 = x0 := View.ld_unit_zero origin ..
/-- The load of weights reads the whole block. -/
theorem ld1 : View.ld x1 r0_1 = x1 := View.ld_unit_zero origin ..
/-- The load of the bias reads the whole block. -/
theorem ld2 : View.ld x2 r0_2 = x2 := View.ld_unit_zero origin ..

/-- The program's state at the start is `afterV … 0`. -/
theorem state0 : k0_pay62 x0 x1 x2 = (afterV x0 x1 x2 0).wv ∧ k0_pay63 x0 x1 x2 = (afterV x0 x1 x2 0).wi
    ∧ k0_pay64 x0 x1 x2 = (afterV x0 x1 x2 0).lv ∧ k0_pay66 x0 x1 x2 = hitV (afterV x0 x1 x2 0)
    ∧ k0_pay65 x0 x1 x2 = k0_pay13 x0 x1 x2 := by
  unfold k0_pay62 k0_pay63 k0_pay64 k0_pay65 k0_pay66
  rw [ld0, ld1, ld2]
  exact ⟨rfl, rfl, rfl, rfl, rfl⟩

/-- After two rounds it is `afterV … 2`. -/
theorem state2 : k0_pay67 x0 x1 x2 = (afterV x0 x1 x2 2).wv ∧ k0_pay68 x0 x1 x2 = (afterV x0 x1 x2 2).wi
    ∧ k0_pay69 x0 x1 x2 = (afterV x0 x1 x2 2).lv ∧ k0_pay70 x0 x1 x2 = hitV (afterV x0 x1 x2 2) := by
  obtain ⟨h1, h2, h3, h4, h5⟩ := state0 x0 x1 x2
  unfold k0_pay67 k0_pay68 k0_pay69 k0_pay70
  rw [h1, h2, h3, h4, h5]
  exact ⟨part2_wv _ _, part2_wi _ _, part2_lv _ _, part2_hit _ _⟩

/-- After four rounds it is `afterV … 4`. -/
theorem state4 : k0_pay71 x0 x1 x2 = (afterV x0 x1 x2 4).wv ∧ k0_pay72 x0 x1 x2 = (afterV x0 x1 x2 4).wi
    ∧ k0_pay73 x0 x1 x2 = (afterV x0 x1 x2 4).lv ∧ k0_pay74 x0 x1 x2 = hitV (afterV x0 x1 x2 4) := by
  obtain ⟨h1, h2, h3, h4⟩ := state2 x0 x1 x2
  unfold k0_pay71 k0_pay72 k0_pay73 k0_pay74
  rw [h1, h2, h3, h4, (state0 x0 x1 x2).2.2.2.2]
  exact ⟨part3_wv _ _, part3_wi _ _, part3_lv _ _, part3_hit _ _⟩

/-- After six rounds it is `afterV … 6`. -/
theorem state6 : k0_pay75 x0 x1 x2 = (afterV x0 x1 x2 6).wv ∧ k0_pay76 x0 x1 x2 = (afterV x0 x1 x2 6).lv
    ∧ k0_pay77 x0 x1 x2 = hitV (afterV x0 x1 x2 6) := by
  obtain ⟨h1, h2, h3, h4⟩ := state4 x0 x1 x2
  unfold k0_pay75 k0_pay76 k0_pay77
  rw [h1, h2, h3, h4, (state0 x0 x1 x2).2.2.2.2]
  exact ⟨part4_wv _ _, part4_lv _ _, part4_hit _ _⟩

/-- The first round's records. -/
theorem first_vals : k0_pay16 x0 x1 x2
    = putV rowsV 0#32 (topV (afterV x0 x1 x2 0)) (broadcast S8x4096 (Scalar.ofBits .f32 0x00000000#32)) := rfl
/-- The first index recorded. -/
theorem first_idxs : k0_pay17 x0 x1 x2
    = putV rowsV 0#32 (pickV (afterV x0 x1 x2 0)) (broadcast S8x4096 (Scalar.ofBits .f32 0x00000000#32)) := rfl

/-- The block of weights that the body leaves: the softmax of the eight recorded greatest values. -/
theorem stored_weights : out0_3 x0 x1 x2 = softV (rows8 fun k => topV (afterV x0 x1 x2 k)) := by
  obtain ⟨o1, o2, o3, o4, o5⟩ := state0 x0 x1 x2
  obtain ⟨a1, a2, a3, a4⟩ := state2 x0 x1 x2
  obtain ⟨b1, b2, b3, b4⟩ := state4 x0 x1 x2
  obtain ⟨c1, c3, c4⟩ := state6 x0 x1 x2
  refine (View.canon_unit_zero origin ..).trans ?_
  rw [c1, c3, c4, b1, b2, b3, b4, a1, a2, a3, a4, o1, o2, o3, o4, o5, ld0, ld1, ld2, first_vals, part2_vals, part3_vals,
    part4_vals, last_vals _ (k0_pay13 x0 x1 x2)]
  rfl

/-- The block of indices that the body leaves: the eight recorded picks as words. -/
theorem stored_indices : out0_4 x0 x1 x2 = fptosi 32 (rows8 fun k => pickV (afterV x0 x1 x2 k)) := by
  obtain ⟨o1, o2, o3, o4, o5⟩ := state0 x0 x1 x2
  obtain ⟨a1, a2, a3, a4⟩ := state2 x0 x1 x2
  obtain ⟨b1, b2, b3, b4⟩ := state4 x0 x1 x2
  obtain ⟨c1, c3, c4⟩ := state6 x0 x1 x2
  refine (View.canon_unit_zero origin ..).trans ?_
  rw [c1, c3, c4, b1, b2, b3, b4, a1, a2, a3, a4, o1, o2, o3, o4, o5, ld0, ld1, ld2, first_idxs, part2_idxs, part3_idxs,
    part4_idxs, part4_wi]
  exact (last_idxs _ _ (afterV x0 x1 x2 6) _).trans rfl

end frame

end Cert.Proof

end
-- ==== Proof.Column.lean ====
/-
  One token's column of 64 logits, and the kernel's tournament over it, over the extended reals.

  `Col` holds a tournament's state: for each of the 32 pairs `(r, r + 32)` the value still in play, its index, and the
  value waiting behind it. `Col.top`, `Col.pick` and `Col.step` are one round: the greatest value in play, the least
  index among the pairs that show it, and the state after that index was taken out. The theorems of this file say that
  the rounds read the logits off in the order "greater value first, among equal values the smaller index first":
  `tops_eq` for the values (always) and `picks_eq` for the indices (while the value read off is above −∞).
-/
module

public import Mathlib.Data.EReal.Basic
public import Mathlib.Data.Finset.Fold
public import Mathlib.Data.Fintype.EquivFin
public import Mathlib.Order.Fin.Basic

@[expose] public section

noncomputable section

namespace Cert.Proof

/-- An expert's number as an extended real. -/
def num (p : Fin 64) : EReal := ((p.val : ℝ) : EReal)

/-- Different indices are different floats. -/
theorem num_inj {p q : Fin 64} (h : num p = num q) : p = q := by
  have h' : ((p.val : ℝ)) = (q.val : ℝ) := EReal.coe_injective h
  exact Fin.ext (by exact_mod_cast h')

/-- Indices as floats keep their order. -/
theorem num_le {p q : Fin 64} (h : p ≤ q) : num p ≤ num q := by
  unfold num; exact_mod_cast h

/-- Every index is at most 64. -/
theorem num_le_64 (p : Fin 64) : num p ≤ 64 := by
  have h : ((p.val : ℝ)) ≤ 64 := by exact_mod_cast p.isLt.le
  exact (EReal.coe_le_coe_iff.mpr h).trans (le_of_eq rfl)

/-- The tournament's state on one column. -/
@[ext] structure Col where
  /-- the value each pair has in play -/
  wv : Fin 32 → EReal
  /-- the index of that value -/
  wi : Fin 32 → EReal
  /-- the value waiting behind it -/
  lv : Fin 32 → EReal

/-- The greatest value in play. -/
def Col.top (s : Col) : EReal := (Finset.univ : Finset (Fin 32)).fold max ⊥ s.wv

/-- The least index among the pairs whose value in play is the greatest. -/
def Col.pick (s : Col) : EReal :=
  (Finset.univ : Finset (Fin 32)).fold min ⊤ fun r => if s.wv r = s.top then s.wi r else 64

/-- The state after the picked index was taken out; `li` holds the indices of the pairs' second values. -/
def Col.step (li : Fin 32 → EReal) (s : Col) : Col where
  wv r := if s.wi r = s.pick then s.lv r else s.wv r
  wi r := if s.wi r = s.pick then li r else s.wi r
  lv r := if s.wi r = s.pick then ⊥ else s.lv r

/-- The upper member of pair `r`. -/
def up (r : Fin 32) : Fin 64 := ⟨r.val, by omega⟩
/-- The lower member of pair `r`. -/
def dn (r : Fin 32) : Fin 64 := ⟨r.val + 32, by omega⟩
/-- The pair's first member in the order: the upper one where it is at least the lower one. -/
def win (f : Fin 64 → EReal) (r : Fin 32) : Fin 64 := if f (dn r) ≤ f (up r) then up r else dn r
/-- The pair's other member. -/
def los (f : Fin 64 → EReal) (r : Fin 32) : Fin 64 := if f (dn r) ≤ f (up r) then dn r else up r

/-- The tournament's state at the start. -/
def Col.start (f : Fin 64 → EReal) : Col where
  wv r := f (win f r)
  wi r := num (win f r)
  lv r := f (los f r)

/-- The state after `k` rounds. -/
def Col.after (f : Fin 64 → EReal) : ℕ → Col
  | 0 => Col.start f
  | k + 1 => Col.step (fun r => num (los f r)) (Col.after f k)

/-- The order of selection: greater value first, the smaller index first among equal values. -/
def Before (f : Fin 64 → EReal) (a b : Fin 64) : Prop := f b < f a ∨ (f a = f b ∧ a < b)

/-- `Before` is transitive. -/
theorem Before.trans {f : Fin 64 → EReal} {a b c : Fin 64} (h : Before f a b) (h' : Before f b c) : Before f a c := by
  rcases h with h | ⟨h, hl⟩ <;> rcases h' with h' | ⟨h', hl'⟩
  · exact .inl (h'.trans h)
  · exact .inl (h' ▸ h)
  · exact .inl (h ▸ h')
  · exact .inr ⟨h.trans h', hl.trans hl'⟩

/-- What comes before is at least as great. -/
theorem Before.le {f : Fin 64 → EReal} {a b : Fin 64} (h : Before f a b) : f b ≤ f a := by
  rcases h with h | ⟨h, _⟩
  · exact h.le
  · exact h.ge

/-- Of two indices one comes before the other. -/
theorem before_or {f : Fin 64 → EReal} {a b : Fin 64} (h : a ≠ b) : Before f a b ∨ Before f b a := by
  rcases lt_trichotomy (f a) (f b) with h' | h' | h'
  · exact .inr (.inl h')
  · rcases lt_or_gt_of_ne h with hl | hl
    · exact .inl (.inr ⟨h', hl⟩)
    · exact .inr (.inr ⟨h'.symm, hl⟩)
  · exact .inl (.inl h')

/-- No index comes before itself. -/
theorem Before.irrefl {f : Fin 64 → EReal} {a : Fin 64} (h : Before f a a) : False := by
  rcases h with h | ⟨_, h⟩ <;> exact lt_irrefl _ h

/-- A pair's winner comes before its loser. -/
theorem win_before_los (f : Fin 64 → EReal) (r : Fin 32) : Before f (win f r) (los f r) := by
  unfold win los
  split
  · rename_i h
    rcases h.lt_or_eq with h | h
    · exact .inl h
    · exact .inr ⟨h.symm, by simp only [up, dn, Fin.lt_def]; omega⟩
  · rename_i h
    exact .inl (not_le.mp h)

/-- Every index is its pair's winner or its loser. -/
theorem mem_pair (f : Fin 64 → EReal) (p : Fin 64) : ∃ r, win f r = p ∨ los f r = p := by
  by_cases hp : p.val < 32
  · refine ⟨⟨p.val, hp⟩, ?_⟩
    have hu : up ⟨p.val, hp⟩ = p := rfl
    unfold win los; rw [hu]
    split <;> simp
  · refine ⟨⟨p.val - 32, by omega⟩, ?_⟩
    have hd : dn ⟨p.val - 32, by omega⟩ = p := Fin.ext (by simp only [dn]; omega)
    unfold win los; rw [hd]
    split <;> simp

/-- A pair's winner is one of its two indices. -/
theorem win_mod (f : Fin 64 → EReal) (r : Fin 32) : (win f r).val % 32 = r.val := by
  unfold win up dn; split <;> simp only <;> omega
/-- A pair's loser is one of its two indices. -/
theorem los_mod (f : Fin 64 → EReal) (r : Fin 32) : (los f r).val % 32 = r.val := by
  unfold los up dn; split <;> simp only <;> omega

/-- No winner exceeds the greatest. -/
theorem wv_le_top (s : Col) (r : Fin 32) : s.wv r ≤ s.top :=
  (Finset.le_fold_max _).mpr (.inr ⟨r, Finset.mem_univ r, le_rfl⟩)

/-- A bound on every winner bounds the greatest. -/
theorem top_le {s : Col} {v : EReal} (h : ∀ r, s.wv r ≤ v) : s.top ≤ v :=
  (Finset.fold_max_le _).mpr ⟨bot_le, fun r _ => h r⟩

/-- What pair `r` shows while the index set taken out is the `rank`s below `k`: its winner, or its loser, or nothing. -/
def Shows (f : Fin 64 → EReal) (rank : Fin 64 → ℕ) (k : ℕ) (s : Col) (r : Fin 32) : Prop :=
  (k ≤ rank (win f r) ∧ s.wv r = f (win f r) ∧ s.wi r = num (win f r) ∧ s.lv r = f (los f r)) ∨
  (rank (win f r) < k ∧ k ≤ rank (los f r) ∧ s.wv r = f (los f r) ∧ s.wi r = num (los f r) ∧ s.lv r = ⊥) ∨
  (rank (win f r) < k ∧ rank (los f r) < k ∧ s.wv r = ⊥ ∧ s.wi r = num (los f r) ∧ s.lv r = ⊥)

/-- The state after `k` rounds: every pair shows what is left of it, or nothing above −∞ is left. -/
def Inv (f : Fin 64 → EReal) (rank : Fin 64 → ℕ) (k : ℕ) (s : Col) : Prop :=
  (∀ r, Shows f rank k s r) ∨ ((∀ r, s.wv r = ⊥ ∧ s.lv r = ⊥) ∧ ∀ p, k ≤ rank p → f p = ⊥)

section
variable {f : Fin 64 → EReal} {rank : Fin 64 → ℕ} (hrank : ∀ a b, Before f a b → rank a < rank b)
include hrank

/-- A smaller rank comes before. -/
theorem before_of_rank {a b : Fin 64} (h : rank a < rank b) : Before f a b := by
  rcases before_or (f := f) (a := a) (b := b) (fun e => by subst e; exact lt_irrefl _ h) with h' | h'
  · exact h'
  · exact absurd (hrank _ _ h') (by omega)

/-- Equal ranks are equal indices. -/
theorem eq_of_rank {a b : Fin 64} (h : rank a = rank b) : a = b := by
  by_contra hne
  rcases before_or (f := f) hne with h' | h' <;> have := hrank _ _ h' <;> omega

/-- A smaller rank is at least as great. -/
theorem le_of_rank {a b : Fin 64} (h : rank a ≤ rank b) : f b ≤ f a := by
  rcases h.lt_or_eq with h | h
  · exact (before_of_rank hrank h).le
  · rw [eq_of_rank hrank h]

omit hrank in
/-- The invariant holds at the start. -/
theorem inv_zero : Inv f rank 0 (Col.start f) := .inl fun _ => .inl ⟨Nat.zero_le _, rfl, rfl, rfl⟩

/-- A pair shows −∞, or an index not yet taken out with its value. -/
theorem Shows.cases {k : ℕ} {s : Col} {r : Fin 32} (h : Shows f rank k s r) :
    s.wv r = ⊥ ∨ ∃ q : Fin 64, k ≤ rank q ∧ s.wv r = f q ∧ s.wi r = num q := by
  rcases h with ⟨h, hv, hi, _⟩ | ⟨_, h, hv, hi, _⟩ | ⟨_, _, hv, _⟩
  · exact .inr ⟨_, h, hv, hi⟩
  · exact .inr ⟨_, h, hv, hi⟩
  · exact .inl hv

/-- The index of the pair's value in play is a member of the pair. -/
theorem Shows.index {k : ℕ} {s : Col} {r : Fin 32} (h : Shows f rank k s r) :
    ∃ q : Fin 64, s.wi r = num q ∧ q.val % 32 = r.val := by
  rcases h with ⟨_, _, hi, _⟩ | ⟨_, _, _, hi, _⟩ | ⟨_, _, _, hi, _⟩
  · exact ⟨_, hi, win_mod f r⟩
  · exact ⟨_, hi, los_mod f r⟩
  · exact ⟨_, hi, los_mod f r⟩

/-- The pair of the index next in order has that index in play. -/
theorem shown {k : ℕ} {s : Col} (h : ∀ r, Shows f rank k s r) {p : Fin 64} (hp : rank p = k) :
    ∃ r, s.wv r = f p ∧ s.wi r = num p := by
  obtain ⟨r, hr⟩ := mem_pair f p
  refine ⟨r, ?_⟩
  have hwl := hrank _ _ (win_before_los f r)
  rcases hr with hr | hr
  · rcases h r with ⟨_, hv, hi, _⟩ | ⟨h1, _⟩ | ⟨h1, _⟩
    · exact ⟨hr ▸ hv, hr ▸ hi⟩
    · rw [hr] at h1; omega
    · rw [hr] at h1; omega
  · rcases h r with ⟨h1, _⟩ | ⟨_, _, hv, hi, _⟩ | ⟨_, h1, _⟩
    · rw [hr] at hwl; omega
    · exact ⟨hr ▸ hv, hr ▸ hi⟩
    · rw [hr] at h1; omega

/-- While every pair shows what is left of it, the greatest value in play is the next in order. -/
theorem top_of_shows {k : ℕ} {s : Col} (h : ∀ r, Shows f rank k s r) {p : Fin 64} (hp : rank p = k) : s.top = f p := by
  refine le_antisymm (top_le fun r => ?_) ?_
  · rcases (h r).cases hrank with h | ⟨q, hq, hv, _⟩
    · rw [h]; exact bot_le
    · rw [hv]; exact le_of_rank hrank (by omega)
  · obtain ⟨r, hv, _⟩ := shown hrank h hp
    rw [← hv]; exact wv_le_top s r

/-- … and, if that value is above −∞, the pick is its index. -/
theorem pick_of_shows {k : ℕ} {s : Col} (h : ∀ r, Shows f rank k s r) {p : Fin 64} (hp : rank p = k) (hf : f p ≠ ⊥) :
    s.pick = num p := by
  have ht := top_of_shows hrank h hp
  refine le_antisymm ?_ ?_
  · obtain ⟨r, hv, hi⟩ := shown hrank h hp
    refine (Finset.fold_min_le _).mpr (.inr ⟨r, Finset.mem_univ r, ?_⟩)
    rw [if_pos (hv.trans ht.symm), hi]
  · refine (Finset.le_fold_min _).mpr ⟨le_top, fun r _ => ?_⟩
    split
    · rename_i e
      rcases (h r).cases hrank with h | ⟨q, hq, hv, hi⟩
      · exact absurd (ht.symm.trans (e.symm.trans h)) hf
      · rw [hi]
        rcases Nat.lt_or_eq_of_le hq with hq | hq
        · rcases before_of_rank hrank (a := p) (b := q) (by omega) with hb | ⟨_, hb⟩
          · rw [← ht, ← e, hv] at hb; exact absurd hb (lt_irrefl _)
          · exact num_le hb.le
        · rw [eq_of_rank hrank (a := p) (b := q) (by omega)]
    · exact num_le_64 p

/-- One round takes the next index in order out. -/
theorem inv_step {k : ℕ} {s : Col} (h : Inv f rank k s) {p : Fin 64} (hp : rank p = k) :
    Inv f rank (k + 1) (s.step fun r => num (los f r)) := by
  have hempty : ((∀ r, s.wv r = ⊥ ∧ s.lv r = ⊥) ∧ ∀ p, k ≤ rank p → f p = ⊥) →
      Inv f rank (k + 1) (s.step fun r => num (los f r)) := by
    rintro ⟨h, hb⟩
    refine .inr ⟨fun r => ⟨?_, ?_⟩, fun p hp => hb p (by omega)⟩
    · show (if s.wi r = s.pick then s.lv r else s.wv r) = ⊥
      split
      · exact (h r).2
      · exact (h r).1
    · show (if s.wi r = s.pick then ⊥ else s.lv r) = ⊥
      split
      · rfl
      · exact (h r).2
  rcases h with h | h
  · by_cases hf : f p = ⊥
    · have hb : ∀ q, k ≤ rank q → f q = ⊥ := fun q hq =>
        le_bot_iff.mp (hf ▸ le_of_rank hrank (a := p) (b := q) (by omega))
      refine hempty ⟨fun r => ?_, hb⟩
      have hwl := hrank _ _ (win_before_los f r)
      rcases h r with ⟨h1, hv, _, hl⟩ | ⟨_, h1, hv, _, hl⟩ | ⟨_, _, hv, _, hl⟩
      · exact ⟨hv.trans (hb _ h1), hl.trans (hb _ (by omega))⟩
      · exact ⟨hv.trans (hb _ h1), hl⟩
      · exact ⟨hv, hl⟩
    · have hpk := pick_of_shows hrank h hp hf
      refine .inl fun r => ?_
      have hwl := hrank _ _ (win_before_los f r)
      have hhit : s.wi r = s.pick → Shows f rank (k + 1) (s.step fun r => num (los f r)) r := by
        intro e
        have e1 : (s.step fun r => num (los f r)).wv r = s.lv r := if_pos e
        have e2 : (s.step fun r => num (los f r)).wi r = num (los f r) := if_pos e
        have e3 : (s.step fun r => num (los f r)).lv r = ⊥ := if_pos e
        rw [hpk] at e
        rcases h r with ⟨h1, hv, hi, hl⟩ | ⟨h1, h2, hv, hi, hl⟩ | ⟨h1, h2, hv, hi, hl⟩
        · have := num_inj (hi.symm.trans e)
          exact .inr (.inl ⟨by rw [this]; omega, by rw [this] at hwl; omega, e1.trans hl, e2, e3⟩)
        · have := num_inj (hi.symm.trans e)
          exact .inr (.inr ⟨by omega, by rw [this]; omega, e1.trans hl, e2, e3⟩)
        · have := num_inj (hi.symm.trans e)
          rw [this] at h2; omega
      by_cases e : s.wi r = s.pick
      · exact hhit e
      · have e1 : (s.step fun r => num (los f r)).wv r = s.wv r := if_neg e
        have e2 : (s.step fun r => num (los f r)).wi r = s.wi r := if_neg e
        have e3 : (s.step fun r => num (los f r)).lv r = s.lv r := if_neg e
        have hne : ∀ q, s.wi r = num q → rank q ≠ k := fun q hq hk =>
          e (by rw [hpk, hq, eq_of_rank hrank (hk.trans hp.symm)])
        unfold Shows
        rw [e1, e2, e3]
        rcases h r with ⟨h1, hv, hi, hl⟩ | ⟨h1, h2, hv, hi, hl⟩ | ⟨h1, h2, hv, hi, hl⟩
        · exact .inl ⟨by have := hne _ hi; omega, hv, hi, hl⟩
        · exact .inr (.inl ⟨by omega, by have := hne _ hi; omega, hv, hi, hl⟩)
        · exact .inr (.inr ⟨by omega, by omega, hv, hi, hl⟩)
  · exact hempty h

end

section
variable {f : Fin 64 → EReal} {σ : Fin 64 → Fin 64} (hσ : ∀ i j, i < j → Before f (σ i) (σ j))
include hσ

/-- An enumeration in the order of selection has an inverse that ranks the indices. -/
theorem exists_rank : ∃ rank : Fin 64 → ℕ, (∀ a b, Before f a b → rank a < rank b) ∧ ∀ k, rank (σ k) = k.val := by
  have hinj : Function.Injective σ := by
    intro i j h
    by_contra hne
    rcases lt_or_gt_of_ne hne with hl | hl
    · exact (h ▸ hσ _ _ hl).irrefl
    · exact (h ▸ hσ _ _ hl).irrefl
  let e := Equiv.ofBijective σ (Finite.injective_iff_bijective.mp hinj)
  refine ⟨fun p => (e.symm p).val, fun a b h => ?_, fun k => ?_⟩
  · have ha : σ (e.symm a) = a := e.apply_symm_apply a
    have hb : σ (e.symm b) = b := e.apply_symm_apply b
    rcases lt_trichotomy (e.symm a) (e.symm b) with hl | hl | hl
    · exact hl
    · have : a = b := by rw [← ha, ← hb, hl]
      exact (this ▸ h).irrefl.elim
    · have := hσ _ _ hl
      rw [ha, hb] at this
      exact (h.trans this).irrefl.elim
  · exact congrArg Fin.val (e.symm_apply_apply k)

/-- What `k` rounds leave. -/
theorem inv_after {rank : Fin 64 → ℕ} (hrank : ∀ a b, Before f a b → rank a < rank b) (hr : ∀ k, rank (σ k) = k.val) (k : ℕ)
    (hk : k < 64) : Inv f rank k (Col.after f k) := by
  induction k with
  | zero => exact inv_zero
  | succ k ih => exact inv_step hrank (ih (by omega)) (hr ⟨k, by omega⟩)

/-- Round `k`'s greatest value is the `k`-th in the order of selection. -/
theorem tops_eq (k : Fin 64) : (Col.after f k.val).top = f (σ k) := by
  obtain ⟨rank, hrank, hr⟩ := exists_rank hσ
  rcases inv_after hσ hrank hr k.val k.isLt with h | ⟨h, hb⟩
  · exact top_of_shows hrank h (hr k)
  · rw [hb _ (hr k).ge]
    exact le_bot_iff.mp (top_le fun r => (h r).1.le)

/-- Round `k`'s pick is the `k`-th index in the order of selection, if its value is above −∞. -/
theorem picks_eq (k : Fin 64) (hf : f (σ k) ≠ ⊥) : (Col.after f k.val).pick = num (σ k) := by
  obtain ⟨rank, hrank, hr⟩ := exists_rank hσ
  rcases inv_after hσ hrank hr k.val k.isLt with h | ⟨h, hb⟩
  · exact pick_of_shows hrank h (hr k) hf
  · exact absurd (hb _ (hr k).ge) hf

end

end Cert.Proof

end
-- ==== Proof.Cells.lean ====
/-
  The block program read one column at a time, over the extended reals.

  `colOf s c` is column `c` of a state of vectors. The theorems say that the vectors' rounds are, on every column, the
  rounds of `Col`, and that the recorded rows are the rounds' greatest values and picks.
-/
module

public import proofs.«01_k».proof.Proof.Block
public import proofs.«01_k».proof.Proof.Column
public import Idealize.ShloMosaic.Lib.Pointwise
public import Idealize.ShloMosaic.Lib.ValueIdx

@[expose] public section

set_option maxRecDepth 16384

noncomputable section

namespace Cert.Proof

open Idealize.ShloMosaic Cert.KernelIdeal Cert.KernelIdeal.Gen

/-- The word of −∞. -/
theorem neg_inf : Ideal.ofBits .f32 0xFF800000#32 = ⊥ := by simp [Ideal.ofBits, Ideal.ieee]
/-- The word of +∞. -/
theorem pos_inf : Ideal.ofBits .f32 0x7F800000#32 = ⊤ := by simp [Ideal.ofBits, Ideal.ieee]
/-- The word of 64. -/
theorem sixty_four : Ideal.ofBits .f32 0x42800000#32 = 64 := by
  simp [Ideal.ofBits, Ideal.ieee]
  rw [← EReal.coe_mul]
  exact congrArg Real.toEReal (by norm_num : ((8388608 : ℝ) * (2 ^ 17)⁻¹) = 64)
/-- The word of 32. -/
theorem thirty_two : Ideal.ofBits .f32 0x42000000#32 = ((32 : ℝ) : EReal) := by
  simp [Ideal.ofBits, Ideal.ieee]
  rw [← EReal.coe_mul]
  exact congrArg Real.toEReal (by norm_num : ((8388608 : ℝ) * (2 ^ 18)⁻¹) = 32)

/-- A small number read back from its word. -/
theorem toInt_small {n : ℕ} (h : n < 64) : (BitVec.ofNat 32 n).toInt = n := by
  rw [BitVec.toInt_ofNat', Int.bmod_eq_of_le] <;> omega

/-- Column `c` of a state. -/
def colOf (s : St Ideal) (c : Fin 4096) : Col where
  wv r := s.wv (ix2 r c)
  wi r := s.wi (ix2 r c)
  lv r := s.lv (ix2 r c)

/-- Column `c` of the row of greatest winners is the column's `top`. -/
theorem topV_apply (s : St Ideal) (c : Fin 4096) : topV s (ix2 0 c) = (colOf s c).top := by
  unfold topV Col.top colOf
  pointwise
  rw [neg_inf]

/-- Column `c` of the row of indices found is the column's `pick`. -/
theorem pickV_apply (s : St Ideal) (c : Fin 4096) : pickV s (ix2 0 c) = (colOf s c).pick := by
  unfold pickV Col.pick
  pointwise
  rw [pos_inf, sixty_four, topV_apply]
  rfl

/-- A pair is hit where its index is the one found. -/
theorem hitV_apply (s : St Ideal) (r : Fin 32) (c : Fin 4096) :
    hitV s (ix2 r c) = BitVec.ofBool (decide ((colOf s c).wi r = (colOf s c).pick)) := by
  unfold hitV
  pointwise
  rw [pickV_apply]
  rfl

/-- A choice by the truth value of `p` is a choice by `p`. -/
theorem select_hit (p : Prop) [Decidable p] (a b : EReal) :
    Scalar.select (BitVec.ofBool (decide p)) a b = if p then a else b := by
  by_cases h : p <;> simp [h, Scalar.select]

/-- A round of the vectors is a round on every column. -/
theorem stepV_col (li : FVec Ideal S32x4096 .f32) (s : St Ideal) (c : Fin 4096) :
    colOf (stepV li s) c = (colOf s c).step fun r => li (ix2 r c) := by
  ext r
  · show select (hitV s) s.lv s.wv (ix2 r c) = _
    pointwise
    rw [hitV_apply, select_hit]
    rfl
  · show select (hitV s) li s.wi (ix2 r c) = _
    pointwise
    rw [hitV_apply, select_hit]
    rfl
  · show select (hitV s) (broadcast S32x4096 (Scalar.ofBits .f32 0xFF800000#32)) s.lv (ix2 r c) = _
    pointwise
    rw [hitV_apply, select_hit, neg_inf]
    rfl

section block
variable (x0 : Vec Ideal S4096x768 .f32) (x1 : Vec Ideal S64x768 .f32) (x2 : Vec Ideal S64x1 .f32)

/-- The block's logits of token `c`. -/
def blockLogit (c : Fin 4096) (p : Fin 64) : EReal :=
  (∑ k : Fin 768, x1 (ix2 p k) * x0 (ix2 c k)) + x2 (ix2 p 0)

/-- The logits that the program computes. -/
theorem pay5_apply (p : Fin 64) (c : Fin 4096) : k0_pay5 x0 x1 x2 (ix2 p c) = blockLogit x0 x1 x2 c p := by
  unfold k0_pay5 blockLogit
  pointwise

/-- The upper half of the logits. -/
theorem pay7_apply (r : Fin 32) (c : Fin 4096) : k0_pay7 x0 x1 x2 (ix2 r c) = blockLogit x0 x1 x2 c (up r) := by
  unfold k0_pay7
  pointwise
  exact pay5_apply x0 x1 x2 (up r) c

/-- The lower half of the logits. -/
theorem pay8_apply (r : Fin 32) (c : Fin 4096) : k0_pay8 x0 x1 x2 (ix2 r c) = blockLogit x0 x1 x2 c (dn r) := by
  unfold k0_pay8
  pointwise
  rw [show (⟨32 + r.val, by omega⟩ : Fin 64) = dn r from Fin.ext (Nat.add_comm _ _)]
  exact pay5_apply x0 x1 x2 (dn r) c

/-- The upper index of pair `r` as a float. -/
theorem num_up (r : Fin 32) : (FloatOps.sitofp .f32 (BitVec.ofNat 32 r.val) : Ideal .f32) = num (up r) := by
  show (((BitVec.ofNat 32 r.val).toInt : ℝ) : EReal) = _
  rw [toInt_small (by omega)]
  unfold num up
  norm_cast

/-- The lower index of pair `r`: 32 more. -/
theorem num_dn (r : Fin 32) : num (up r) + ((32 : ℝ) : EReal) = num (dn r) := by
  unfold num up dn
  rw [← EReal.coe_add]
  norm_cast

/-- The state at the start of a block is the start of every column's tournament. -/
theorem startV_col (c : Fin 4096) : colOf (startV x0 x1 x2) c = Col.start (blockLogit x0 x1 x2 c) := by
  ext r
  · show k0_pay10 x0 x1 x2 (ix2 r c) = blockLogit x0 x1 x2 c (win (blockLogit x0 x1 x2 c) r)
    unfold k0_pay10 k0_pay9
    pointwise
    rw [pay7_apply, pay8_apply]
    first | (unfold win; split <;> rfl) | (unfold los; split <;> rfl)
  · show k0_pay11 x0 x1 x2 (ix2 r c) = num (win (blockLogit x0 x1 x2 c) r)
    unfold k0_pay11 k0_pay9 k0_pay6
    pointwise
    rw [pay7_apply, pay8_apply, num_up, thirty_two, num_dn]
    first | (unfold win; split <;> rfl) | (unfold los; split <;> rfl)
  · show k0_pay12 x0 x1 x2 (ix2 r c) = blockLogit x0 x1 x2 c (los (blockLogit x0 x1 x2 c) r)
    unfold k0_pay12 k0_pay9
    pointwise
    rw [pay7_apply, pay8_apply]
    first | (unfold win; split <;> rfl) | (unfold los; split <;> rfl)

/-- The losers' indices at the start. -/
theorem pay13_apply (r : Fin 32) (c : Fin 4096) : k0_pay13 x0 x1 x2 (ix2 r c) = num (los (blockLogit x0 x1 x2 c) r) := by
  unfold k0_pay13 k0_pay9 k0_pay6
  pointwise
  rw [pay7_apply, pay8_apply, num_up, thirty_two, num_dn]
  unfold los; split <;> rfl

/-- The state after `k` rounds is that of every column's tournament. -/
theorem afterV_col (c : Fin 4096) (k : ℕ) : colOf (afterV x0 x1 x2 k) c = Col.after (blockLogit x0 x1 x2 c) k := by
  induction k with
  | zero => exact startV_col x0 x1 x2 c
  | succ k ih =>
    show colOf (stepV _ (afterV x0 x1 x2 k)) c = Col.step _ (Col.after _ k)
    rw [stepV_col, ih]
    congr 1
    funext r
    exact pay13_apply x0 x1 x2 r c

end block

/-- Putting a row at row `n` changes row `n` alone. -/
theorem putV_apply {n : ℕ} (hn : n < 8) (row : FVec Ideal S1x4096 .f32) (acc : FVec Ideal S8x4096 .f32) (k : Fin 8) (c : Fin 4096) :
    putV rowsV (BitVec.ofNat 32 n) row acc (ix2 k c) = if k.val = n then row (ix2 0 c) else acc (ix2 k c) := by
  unfold putV rowsV
  pointwise
  have h : IntOp.cmpi .eq (BitVec.ofNat 32 k.val) (BitVec.ofNat 32 n) = BitVec.ofBool (decide (k.val = n)) := by
    show BitVec.ofBool _ = _
    congr 1
    have hk := k.isLt
    rw [Bool.eq_iff_iff]
    simp only [beq_iff_eq, decide_eq_true_eq]
    constructor
    · intro e
      have := congrArg BitVec.toNat e
      simp only [BitVec.toNat_ofNat] at this
      omega
    · intro e; rw [e]
  rw [h, select_hit]

/-- Row `k` of the eight recorded rows is the one recorded in round `k`. -/
theorem rows8_apply (row : ℕ → FVec Ideal S1x4096 .f32) (k : Fin 8) (c : Fin 4096) :
    rows8 row (ix2 k c) = row k.val (ix2 0 c) := by
  unfold rows8
  rw [putV_apply (by omega), putV_apply (by omega), putV_apply (by omega), putV_apply (by omega), putV_apply (by omega),
    putV_apply (by omega), putV_apply (by omega), putV_apply (by omega)]
  fin_cases k <;> rfl

/-- The program's softmax, element by element. -/
theorem softV_apply (v : FVec Ideal S8x4096 .f32) (k : Fin 8) (c : Fin 4096) :
    softV v (ix2 k c) = Ideal.div (Ideal.exp (v (ix2 k c) - v (ix2 0 c))) (∑ i, Ideal.exp (v (ix2 i c) - v (ix2 0 c))) := by
  unfold softV expV
  pointwise

end Cert.Proof

end
-- ==== Proof.Order.lean ====
/-
  The reference's top-k: a stable sort by greater value is the order of selection.

  `order f` enumerates the 64 indices by the stable sort of their values, greater first. `order_before` says that it runs
  in the order of selection of `Before` (equal values by the smaller index), and `topK_values`, `topK_indices` read the
  reference's top-k at a token and a slot.
-/
module

public import proofs.«01_k».proof.Proof.Column
public import Idealize.ShloMosaic.Lib.SortFacts
public import Idealize.ShloMosaic.PureOps.Ideal
public import Idealize.ShloMosaic.Lib.Pointwise

@[expose] public section

noncomputable section

namespace Cert.Proof

open Idealize.ShloMosaic

/-- Inserting in front of a list ordered by a transitive `T` keeps the order, if `a` passes exactly elements before it. -/
theorem insert_ordered {ι : Type} {R : ι → ι → Bool} {T : ι → ι → Prop} (hT : ∀ a b c, T a b → T b c → T a c) (a : ι) (l : List ι)
    (hpass : ∀ b ∈ l, R b a = true → T b a) (hstop : ∀ b ∈ l, R b a = false → T a b) (hl : l.Pairwise T) :
    (insertBefore R a l).Pairwise T := by
  induction l with
  | nil => exact List.pairwise_singleton _ _
  | cons b l ih =>
    rw [List.pairwise_cons] at hl
    unfold insertBefore
    split
    · rename_i h
      refine List.pairwise_cons.mpr ⟨fun c hc => ?_,
        ih (fun c hc => hpass c (List.mem_cons_of_mem _ hc)) (fun c hc => hstop c (List.mem_cons_of_mem _ hc)) hl.2⟩
      rcases List.mem_cons.mp ((perm_insertBefore R a l).mem_iff.mp hc) with rfl | hc'
      · exact hpass b List.mem_cons_self h
      · exact hl.1 c hc'
    · rename_i h
      have hab : T a b := hstop b List.mem_cons_self (by simpa using h)
      refine List.pairwise_cons.mpr ⟨fun c hc => ?_, List.pairwise_cons.mpr hl⟩
      rcases List.mem_cons.mp hc with rfl | hc'
      · exact hab
      · exact hT _ _ _ hab (hl.1 c hc')

/-- "Greater value", as the sort's comparator. -/
def greater (f : Fin 64 → EReal) (a b : Fin 64) : Bool := decide (f b < f a)

/-- The stable sort of an increasing list of indices is in the order of selection. -/
theorem sort_ordered (f : Fin 64 → EReal) (l : List (Fin 64)) (hl : l.Pairwise (· < ·)) :
    (stableSort (greater f) l).Pairwise (Before f) := by
  induction l with
  | nil => exact List.Pairwise.nil
  | cons a l ih =>
    rw [List.pairwise_cons] at hl
    unfold stableSort
    refine insert_ordered (T := Before f) (fun _ _ _ h h' => h.trans h') a _ (fun b _ h => ?_) (fun b hb h => ?_) (ih hl.2)
    · exact .inl (by simpa [greater] using h)
    · have hlt : a < b := hl.1 b ((perm_stableSort _ l).mem_iff.mp hb)
      have hle : f b ≤ f a → Before f a b := fun h => h.lt_or_eq.elim .inl fun e => .inr ⟨e.symm, hlt⟩
      exact hle (by simpa [greater] using h)

/-- A relation that holds along the sorted positions holds between what they enumerate. -/
theorem sortedFrom_pairwise {n : ℕ} (R : Fin n → Fin n → Bool) (T : Fin n → Fin n → Prop) (h : (sortPositions n R).Pairwise T)
    (i j : Fin n) (hij : i < j) : T (sortedFrom R i) (sortedFrom R j) := by
  have hp := List.pairwise_iff_get.mp h
  unfold sortedFrom
  exact hp _ _ (by simp only [Fin.lt_def, Fin.val_cast]; exact hij)

/-- The indices by their values, greater first, as the stable sort puts them. -/
def order (f : Fin 64 → EReal) : Fin 64 → Fin 64 := sortedFrom (greater f)

/-- An earlier position in the order of selection holds an index that comes before. -/
theorem order_before (f : Fin 64 → EReal) (i j : Fin 64) (h : i < j) : Before f (order f i) (order f j) :=
  sortedFrom_pairwise _ _ (sort_ordered f _ (List.pairwise_lt_finRange 64)) i j h

/-- Slot `k` of the eight, among the 64 positions. -/
def slot (k : Fin 8) : Fin 64 := ⟨k.val, by omega⟩

/-- The shape of the logits. -/
abbrev Logits : Shape := ⟨2, ![32768, 64]⟩
/-- The shape of the selected logits. -/
abbrev Picked : Shape := ⟨2, ![32768, 8]⟩

/-- The comparator on a token's logits is "greater value". -/
theorem compare_greater (x : FVec Ideal Logits .f32) (t : Fin 32768) :
    (fun a b => (FloatOps.cmpfTotal .gt (x (ix2 t a)) (x (ix2 t b)) : BitVec 1) == 1#1) = greater fun p => x (ix2 t p) := by
  funext a b
  show (BitVec.ofBool (decide (x (ix2 t b) < x (ix2 t a))) == 1#1) = decide (x (ix2 t b) < x (ix2 t a))
  by_cases h : x (ix2 t b) < x (ix2 t a) <;> simp [h]

/-- Moving along the second axis of an index changes its second coordinate alone. -/
theorem along_one (t : Fin 32768) (p q : Fin 64) :
    Shape.Idx.along (s := Logits) (ix2 t p) (1 : Fin 2) q = ix2 t q := by
  funext a
  match a with
  | ⟨0, _⟩ => rfl
  | ⟨1, _⟩ => rfl

/-- The reference's selected logits: slot `k` of token `t` is the `k`-th in the order. -/
theorem topK_values (x : FVec Ideal Logits .f32) (h : Logits.Slices (fun _ => 0) Picked) (t : Fin 32768) (k : Fin 8) :
    (Host.topK Picked 1 (FloatOps.cmpfTotal .gt) x h).1 (ix2 t k) = x (ix2 t (order (fun p => x (ix2 t p)) (slot k))) := by
  unfold Host.topK Host.sort2
  pointwise
  simp only [along_one, compare_greater]
  rfl

/-- The reference's indices: slot `k` of token `t` is the `k`-th index in the order. -/
theorem topK_indices (x : FVec Ideal Logits .f32) (h : Logits.Slices (fun _ => 0) Picked) (t : Fin 32768) (k : Fin 8) :
    (Host.topK Picked 1 (FloatOps.cmpfTotal .gt) x h).2 (ix2 t k)
      = BitVec.ofNat 32 (order (fun p => x (ix2 t p)) (slot k)).val := by
  unfold Host.topK Host.sort2
  pointwise
  simp only [along_one, compare_greater]
  rfl

end Cert.Proof

end
-- ==== Proof.Values.lean ====
/-
  What the two programs compute for one token, as functions of its 64 logits.

  `pickedWeight f k` is slot `k`'s softmax weight among the eight logits first in the order of selection, `pickedIndex f k`
  its index as a word. `block_weights` and `block_indices` say that the kernel's block holds them (the index where the
  logit is above −∞), `reference_weights` and `reference_indices` that the reference's arrays do.
-/
module

public import proofs.«01_k».proof.Proof.Cells
public import proofs.«01_k».proof.Proof.Order
public import proofs.«01_k».proof.Proof.Gen.ReferenceIdeal
public import proofs.«01_k».proof.Proof.Gen.ReferenceIdeal.Run

@[expose] public section

set_option maxRecDepth 16384

noncomputable section

namespace Cert.Proof

open Idealize.ShloMosaic

/-- The logit that slot `k` selects. -/
def picked (f : Fin 64 → EReal) (k : Fin 8) : EReal := f (order f (slot k))

/-- Slot `k`'s softmax weight. -/
def pickedWeight (f : Fin 64 → EReal) (k : Fin 8) : EReal :=
  Ideal.div (Ideal.exp (picked f k - picked f 0)) (∑ i, Ideal.exp (picked f i - picked f 0))

/-- Slot `k`'s index. -/
def pickedIndex (f : Fin 64 → EReal) (k : Fin 8) : BitVec 32 := BitVec.ofNat 32 (order f (slot k)).val

/-- The index that the kernel's round `k` finds, as a word. -/
def kernelIndex (f : Fin 64 → EReal) (k : Fin 8) : BitVec 32 := Ideal.fptosi 32 (Col.after f k.val).pick

/-- An index held as a float reads back as its word. -/
theorem fptosi_num (p : Fin 64) : Ideal.fptosi 32 (num p) = BitVec.ofNat 32 p.val := by
  have hp : (p.val : ℤ) < 64 := by exact_mod_cast p.isLt
  unfold num Ideal.fptosi
  rw [Ideal.toIntClamped_coe, if_pos (Nat.cast_nonneg _), Int.floor_natCast, min_eq_right (by omega), max_eq_right (by omega), BitVec.ofInt_natCast]

/-- Where the selected logit is above −∞, the kernel's index is the reference's. -/
theorem kernelIndex_eq (f : Fin 64 → EReal) (k : Fin 8) (h : picked f k ≠ ⊥) : kernelIndex f k = pickedIndex f k := by
  unfold kernelIndex pickedIndex
  rw [show (Col.after f k.val).pick = num (order f (slot k)) from picks_eq (order_before f) (slot k) h]
  exact fptosi_num _

section block
open Cert.KernelIdeal Cert.KernelIdeal.Gen
variable (x0 : Vec Ideal S4096x768 .f32) (x1 : Vec Ideal S64x768 .f32) (x2 : Vec Ideal S64x1 .f32)

/-- Round `k` records slot `k`'s logit. -/
theorem recorded_values (k : Fin 8) (c : Fin 4096) :
    rows8 (fun k => topV (afterV x0 x1 x2 k)) (ix2 k c) = picked (blockLogit x0 x1 x2 c) k := by
  rw [rows8_apply, topV_apply, afterV_col]
  exact tops_eq (order_before _) (slot k)

/-- The kernel's block of weights. -/
theorem block_weights (k : Fin 8) (c : Fin 4096) :
    out0_3 x0 x1 x2 (ix2 k c) = pickedWeight (blockLogit x0 x1 x2 c) k := by
  rw [stored_weights, softV_apply]
  simp only [recorded_values]
  rfl

/-- The kernel's block of indices. -/
theorem block_indices (k : Fin 8) (c : Fin 4096) :
    out0_4 x0 x1 x2 (ix2 k c) = kernelIndex (blockLogit x0 x1 x2 c) k := by
  rw [stored_indices]
  show Ideal.fptosi 32 (rows8 (fun k => pickV (afterV x0 x1 x2 k)) (ix2 k c)) = _
  rw [rows8_apply, pickV_apply, afterV_col]
  rfl
end block

section reference
open Cert.ReferenceIdeal Cert.ReferenceIdeal.Gen
variable (h : FVec Ideal S32768x768 .f32) (w : FVec Ideal S64x768 .f32) (b : FVec Ideal S64 .f32)

/-- Token `t`'s logits. -/
def logit (t : Fin 32768) (p : Fin 64) : EReal := (∑ k : Fin 768, h (ix2 t k) * w (ix2 p k)) + b (ix1 p)

/-- The reference's array of logits. -/
def logits : FVec Ideal S32768x64 .f32 :=
  addf (Host.dotGeneral dot_S32768x768_S768x64_S32768x64_1_0_0_1_n_n none h (transpose S768x64 [1, 0] w transposes_S64x768_S768x64_1_0))
    (broadcastInDim S32768x64 ![0, 1] bcast_S1x64_S32768x64_0_1 (broadcastInDim S1x64 ![1] bcast_S64_S1x64_1 b))

/-- The reference's logits, element by element. -/
theorem logits_apply (t : Fin 32768) (p : Fin 64) : logits h w b (ix2 t p) = logit h w b t p := by
  unfold logits logit
  pointwise

/-- A row of the reference's logits. -/
theorem logits_row (t : Fin 32768) : (fun p => logits h w b (ix2 t p)) = logit h w b t := funext (logits_apply h w b t)

/-- The reference's selected logits. -/
def selected : FVec Ideal S32768x8 .f32 :=
  (Host.topK S32768x8 1 (FloatOps.cmpfTotal .gt) (logits h w b) sliceFits_S32768x64_S32768x8).1

/-- The reference's selected logits, element by element. -/
theorem selected_apply (t : Fin 32768) (k : Fin 8) : selected h w b (ix2 t k) = picked (logit h w b t) k := by
  unfold selected
  rw [topK_values, logits_row, logits_apply]
  rfl

/-- The reference's indices. -/
theorem reference_indices (t : Fin 32768) (k : Fin 8) :
    (Host.topK S32768x8 1 (FloatOps.cmpfTotal .gt) (logits h w b) sliceFits_S32768x64_S32768x8).2 (ix2 t k)
      = pickedIndex (logit h w b t) k := by
  rw [topK_indices, logits_row]
  rfl

/-- No slot exceeds slot 0. -/
theorem picked_le (f : Fin 64 → EReal) (k : Fin 8) : picked f k ≤ picked f 0 := by
  rcases Nat.eq_zero_or_pos k.val with h | h
  · rw [show k = 0 from Fin.ext h]
  · exact (order_before f (slot 0) (slot k) h).le

/-- The greatest of the selected logits is the first. -/
theorem greatest (f : Fin 64 → EReal) : max ⊥ ((Finset.univ : Finset (Fin 8)).fold max ⊥ (picked f)) = picked f 0 :=
  (max_eq_right bot_le).trans (le_antisymm ((Finset.fold_max_le _).mpr ⟨bot_le, fun k _ => picked_le f k⟩)
    ((Finset.le_fold_max _).mpr (.inr ⟨0, Finset.mem_univ _, le_rfl⟩)))

/-- The greatest selected logit of each token, as the reference takes it. -/
def rowMax (v : FVec Ideal S32768x8 .f32) : FVec Ideal S32768x8 .f32 :=
  broadcastInDim S32768x8 ![0, 1] bcast_S32768x1_S32768x8_0_1 (broadcastInDim S32768x1 ![0] bcast_S32768_S32768x1_0
    (maximumf (broadcastInDim S32768 ![] bcast_S_S32768 (constant S_ .f32 0xFF800000#32))
      (Host.reduce FloatOps.maximumf v (constant S_ .f32 0xFF800000#32) reducesTo_S32768x8_S32768_d1 h_S_)))

/-- The reference's exponentials. -/
def hostExp (v : FVec Ideal S32768x8 .f32) : FVec Ideal S32768x8 .f32 := Host.exp (subf v (rowMax v))

/-- The reference's softmax. -/
def hostSoft (v : FVec Ideal S32768x8 .f32) : FVec Ideal S32768x8 .f32 :=
  Host.divf (hostExp v) (broadcastInDim S32768x8 ![0, 1] bcast_S32768x1_S32768x8_0_1 (broadcastInDim S32768x1 ![0] bcast_S32768_S32768x1_0
    (Host.reduceAdd (hostExp v) (constant S_ .f32 0x00000000#32) reducesTo_S32768x8_S32768_d1 h_S_)))

/-- The reference's greatest value of a row. -/
theorem rowMax_apply (v : FVec Ideal S32768x8 .f32) (t : Fin 32768) (k : Fin 8) :
    rowMax v (ix2 t k) = max ⊥ ((Finset.univ : Finset (Fin 8)).fold max ⊥ fun i => v (ix2 t i)) := by
  unfold rowMax
  pointwise
  simp only [neg_inf]

/-- The reference's softmax, element by element. -/
theorem hostSoft_apply (v : FVec Ideal S32768x8 .f32) (t : Fin 32768) (k : Fin 8) :
    hostSoft v (ix2 t k) = Ideal.div (Ideal.exp (v (ix2 t k) - rowMax v (ix2 t k)))
      (∑ i, Ideal.exp (v (ix2 t i) - rowMax v (ix2 t i))) := by
  unfold hostSoft hostExp
  pointwise

/-- The reference's weights. -/
theorem reference_weights (t : Fin 32768) (k : Fin 8) :
    hostSoft (selected h w b) (ix2 t k) = pickedWeight (logit h w b t) k := by
  have hm (i : Fin 8) : rowMax (selected h w b) (ix2 t i) = picked (logit h w b t) 0 := by
    rw [rowMax_apply]
    simp only [selected_apply]
    exact greatest _
  rw [hostSoft_apply]
  simp only [hm, selected_apply]
  rfl

end reference

end Cert.Proof

end
-- ==== Proof.Arrays.lean ====
/-
  The kernel's two result arrays after the run, as functions of the argument arrays.
-/
module

public import proofs.«01_k».proof.Proof.Values
public import proofs.«01_k».proof.Proof.Gen.KernelIdeal.Frame
public import Idealize.ShloMosaic.Lib.Pipeline.ValueKit
public import Idealize.ShloMosaic.Lib.Pipeline.Value
public import Idealize.ShloMosaic.Lib.Claim

@[expose] public section

set_option maxRecDepth 16384

noncomputable section

namespace Cert.Proof

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The logits of token `t` on device `c`. -/
abbrev tokenLogit (c : Dev nD) (t : Fin 32768) : Fin 64 → EReal :=
  logit (m ((c : Thread nD τ).loc main_arg0)) (m ((c : Thread nD τ).loc main_arg1)) (m ((c : Thread nD τ).loc main_arg2)) t

/-- The token in column `c` of block `t`. -/
def token (t : Fin cfg0.N) (c : Fin 4096) : Fin 32768 := ⟨t.val * 4096 + c.val, by
  have h : t.val < 8 := t.isLt
  omega⟩

/-! Where each window's block lies: the hidden states and the results move with the grid, the weights and the bias stay. -/

/-- The block of hidden states at point `t` is the `t`-th along the tokens. -/
theorem place0 : ∀ t : Fin cfg0.N, win0_0.index t 0 = t.val ∧ win0_0.index t 1 = 0 := by decide +kernel
/-- The block of weights is the whole array at every point. -/
theorem place1 : ∀ t : Fin cfg0.N, win0_1.index t 0 = 0 ∧ win0_1.index t 1 = 0 := by decide +kernel
/-- The block of the bias is the whole array at every point. -/
theorem place2 : ∀ t : Fin cfg0.N, win0_2.index t 0 = 0 ∧ win0_2.index t 1 = 0 := by decide +kernel
/-- The block of weights of the result at point `t` is the `t`-th along the tokens. -/
theorem place3 : ∀ t : Fin cfg0.N, win0_3.index t 0 = 0 ∧ win0_3.index t 1 = t.val := by decide +kernel
/-- The block of indices of the result at point `t` is the `t`-th along the tokens. -/
theorem place4 : ∀ t : Fin cfg0.N, win0_4.index t 0 = 0 ∧ win0_4.index t 1 = t.val := by decide +kernel

/-- Row `c` of the block of hidden states at point `t` is the row of `token t c`. -/
theorem hidden_block (d : Dev nD) (t : Fin cfg0.N) (c : Fin 4096) (k : Fin 768) :
    iblk m d 0 t (ix2 c k) = m ((d : Thread nD τ).loc main_arg0) (ix2 (token t c) k) := by
  unfold token
  blk_ext [iblk, V_main_arg0, (place0 t).1, (place0 t).2]

/-- The block of weights holds the weights. -/
theorem weight_block (d : Dev nD) (t : Fin cfg0.N) (p : Fin 64) (k : Fin 768) :
    iblk m d 1 t (ix2 p k) = m ((d : Thread nD τ).loc main_arg1) (ix2 p k) := by
  blk_ext [iblk, V_main_arg1, (place1 t).1, (place1 t).2]

/-- The kernel is launched on the bias as a column. -/
theorem bias_entry (d : Dev nD) : V m d main_v0 = shapeCast S64x1 (m ((d : Thread nD τ).loc main_arg2)) shapeCasts_S64_S64x1 := by
  unfold_abbrev_sides
  simp only [hostOps0, List.flatten_cons, List.flatten_nil, List.append_nil]
  after_results
  rfl

/-- The block of the bias holds the bias. -/
theorem bias_block (d : Dev nD) (t : Fin cfg0.N) (p : Fin 64) :
    iblk m d 2 t (ix2 p 0) = m ((d : Thread nD τ).loc main_arg2) (ix1 p) := by
  have e : iblk m d 2 t (ix2 p 0) = V m d main_v0 (ix2 p 0) := by
    blk_ext [iblk, (place2 t).1, (place2 t).2]
  rw [e, bias_entry]
  pointwise

/-- Column `c`'s logits at point `t` are those of `token t c`. -/
theorem block_logit (d : Dev nD) (t : Fin cfg0.N) (c : Fin 4096) :
    blockLogit (iblk m d 0 t) (iblk m d 1 t) (iblk m d 2 t) c = tokenLogit m d (token t c) := by
  funext p
  unfold blockLogit tokenLogit logit
  simp only [hidden_block, weight_block, bias_block]
  exact congrArg (· + _) (Finset.sum_congr rfl fun k _ => mul_comm _ _)

/-- Column `c` of the block of weights written at point `t` goes to the column of `token t c`. -/
theorem place_weights (t : Fin cfg0.N) (r : Fin 8) (c : Fin 4096) :
    (win0_3.blk t).view.emb (ix2 r c) = ix2 r (token t c) := by
  unfold token
  blk_ext [(place3 t).1, (place3 t).2]

/-- Column `c` of the block of indices written at point `t` goes to the column of `token t c`. -/
theorem place_indices (t : Fin cfg0.N) (r : Fin 8) (c : Fin 4096) :
    (win0_4.blk t).view.emb (ix2 r c) = ix2 r (token t c) := by
  unfold token
  blk_ext [(place4 t).1, (place4 t).2]

/-- The kernel's array of weights after the run: row `k`, column `t` is slot `k`'s weight of token `t`. -/
theorem weights_array (c : Dev nD) :
    (dats m 0 c).arrAt 3 (cfgs 0).N = fun i => pickedWeight (tokenLogit m c (i 1)) (i 0) := by
  refine (dats m 0 c).arrAt_eq_of_covers 3 _ (by decide +kernel) fun t hf y => ?_
  obtain ⟨r, q, rfl⟩ : ∃ (r : Fin 8) (q : Fin 4096), y = ix2 r q := ⟨y 0, y 1, by funext a; fin_cases a <;> rfl⟩
  blk_simp
  rw [after0_3, place_weights]
  exact (block_weights _ _ _ r q).trans (by rw [block_logit]; rfl)

/-- The kernel's array of indices after the run. -/
theorem indices_array (c : Dev nD) :
    (dats m 0 c).arrAt 4 (cfgs 0).N = fun i => kernelIndex (tokenLogit m c (i 1)) (i 0) := by
  refine (dats m 0 c).arrAt_eq_of_covers 4 _ (by decide +kernel) fun t hf y => ?_
  obtain ⟨r, q, rfl⟩ : ∃ (r : Fin 8) (q : Fin 4096), y = ix2 r q := ⟨y 0, y 1, by funext a; fin_cases a <;> rfl⟩
  blk_simp
  rw [after0_4, place_indices]
  exact (block_indices _ _ _ r q).trans (by rw [block_logit]; rfl)

/-- The kernel's five arrays are five buffers. -/
theorem arrays_distinct : Function.Injective (Pipeline.arrRef spec0) := by decide

/-- Turning an `8` by `32768` array swaps its two coordinates. -/
theorem turned {α : Type} (x : S8x32768.Idx → α) (i : S32768x8.Idx) :
    transpose S32768x8 [1, 0] x transposes_S8x32768_S32768x8_1_0 i = x (ix2 (i 1) (i 0)) := by
  obtain ⟨t, k, rfl⟩ : ∃ (t : Fin 32768) (k : Fin 8), i = ix2 t k := ⟨i 0, i 1, by funext a; fin_cases a <;> rfl⟩
  pointwise

/-- What the whole program leaves: both results by token and slot, the arguments unchanged. -/
theorem run : θ_run defs (onTc (τ := τ) (main (F := Ideal))) ⟨m, fun _ => 0, ρ⟩ fun r => ∀ c : Dev nD,
    r.2.mem ((c : Thread nD τ).loc main_v2) = (fun i => pickedWeight (tokenLogit m c (i 0)) (i 1))
    ∧ r.2.mem ((c : Thread nD τ).loc main_v3) = (fun i => kernelIndex (tokenLogit m c (i 0)) (i 1))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) := by
  run_from run_main m ρ & unchanged m ρ
  · unfold Pipeline.afterTail₀
    simp only [hostOps1, List.flatten_cons, List.flatten_nil, List.append_nil, List.cons_append, List.nil_append]
    after_results
    rw [show _ = _ from Pipeline.withArrays_arr spec0 arrays_distinct c (V0 m c) (fun w => (dats m 0 c).arrAt w (cfgs 0).N) 3]
    refine (congrArg (transpose S32768x8 [1, 0] · transposes_S8x32768_S32768x8_1_0) (weights_array m c)).trans ?_
    funext i
    exact turned _ i
  · unfold Pipeline.afterTail₀
    simp only [hostOps1, List.flatten_cons, List.flatten_nil, List.append_nil, List.cons_append, List.nil_append]
    after_results
    rw [show _ = _ from Pipeline.withArrays_arr spec0 arrays_distinct c (V0 m c) (fun w => (dats m 0 c).arrAt w (cfgs 0).N) 4]
    refine (congrArg (transpose S32768x8 [1, 0] · transposes_S8x32768_S32768x8_1_0) (indices_array m c)).trans ?_
    funext i
    exact turned _ i

end Cert.Proof

end
-- ==== Proof.Conditions.lean ====
/-
  What the two conditions of the claims say of the logits.

  `finite_logits`: with finite arguments no logit is −∞. `mask_indices`: where the second claim's mask of indices is set,
  the selected logit is above −∞.
-/
module

public import proofs.«01_k».proof.Proof.Values
public import proofs.«01_k».proof.Proof.Gen.Pre_finite_inputs
public import proofs.«01_k».proof.Proof.Gen.On_selected_above_minus_infinity
public import Idealize.ShloMosaic.Lib.ReduceAll

@[expose] public section

set_option maxRecDepth 16384

noncomputable section

namespace Cert.Proof

open Idealize.ShloMosaic

/-- `x` is a real number. -/
def Finite (x : EReal) : Prop := ∃ r : ℝ, x = (r : EReal)

/-- Sums of finite numbers are finite. -/
theorem Finite.add {x y : EReal} : Finite x → Finite y → Finite (x + y) := fun ⟨a, ha⟩ ⟨b, hb⟩ => ⟨a + b, by rw [ha, hb, EReal.coe_add]⟩
/-- Products of finite numbers are finite. -/
theorem Finite.mul {x y : EReal} : Finite x → Finite y → Finite (x * y) := fun ⟨a, ha⟩ ⟨b, hb⟩ => ⟨a * b, by rw [ha, hb, EReal.coe_mul]⟩

/-- Finite sums of finite numbers are finite. -/
theorem Finite.sum {n : Nat} {f : Fin n → EReal} (h : ∀ k, Finite (f k)) : Finite (∑ k, f k) :=
  Finset.sum_induction f Finite (fun _ _ => Finite.add) ⟨0, rfl⟩ fun k _ => h k

/-- A finite number is not −∞. -/
theorem Finite.ne_bot {x : EReal} : Finite x → x ≠ ⊥ := fun ⟨r, h⟩ => h ▸ EReal.coe_ne_bot r

/-- A number whose absolute value is below +∞ is finite. -/
theorem finite_of_abs {x : EReal} (h : Ideal.cmp .olt (max x (-x)) ⊤ = 1#1) : Finite x := by
  induction x with
  | bot => simp [Ideal.cmp] at h
  | coe r => exact ⟨r, rfl⟩
  | top => simp [Ideal.cmp] at h

section finite
open Cert.Pre_finite_inputs
variable (h : FVec Ideal S32768x768 .f32) (w : FVec Ideal S64x768 .f32) (b : FVec Ideal S64 .f32)

/-- The first condition says that every element of the three arguments is finite. -/
theorem finite_args (hp : fn h w b = fun _ => 1#1) : (∀ i, Finite (h i)) ∧ (∀ i, Finite (w i)) ∧ ∀ i, Finite (b i) := by
  have e := congrFun hp (fun a => a.elim0)
  dsimp only [fn] at e
  rw [andi_apply, IntOp.andi_eq_one, andi_apply, IntOp.andi_eq_one] at e
  have test {s : Shape} (x : FVec Ideal s .f32) (hb : S_.BroadcastsInDim s ![]) (i : s.Idx)
      (hi : cmpf .olt (Host.absf x) (broadcastInDim s ![] hb (constant S_ .f32 0x7F800000#32)) i = 1#1) : Finite (x i) := by
    refine finite_of_abs (Eq.trans ?_ hi)
    rw [← pos_inf]
    rfl
  exact ⟨fun i => test h _ i (Host.reduce_andi_all _ _ _ _ _ e.1.1 i), fun i => test w _ i (Host.reduce_andi_all _ _ _ _ _ e.1.2 i),
    fun i => test b _ i (Host.reduce_andi_all _ _ _ _ _ e.2 i)⟩

/-- Then no logit is −∞. -/
theorem finite_logits (hp : fn h w b = fun _ => 1#1) (t : Fin 32768) (p : Fin 64) : logit h w b t p ≠ ⊥ := by
  obtain ⟨hh, hw, hb⟩ := finite_args h w b hp
  exact ((Finite.sum fun k => (hh _).mul (hw _)).add (hb _)).ne_bot

end finite

section mask
open Cert.On_selected_above_minus_infinity
variable (h : FVec Ideal S32768x768 .f32) (w : FVec Ideal S64x768 .f32) (b : FVec Ideal S64 .f32)

/-- Where the mask of indices is set, the selected logit is above −∞. -/
theorem mask_indices (t : Fin 32768) (k : Fin 8) (hm : (fn h w b).2 (ix2 t k) = 1#1) : picked (logit h w b t) k ≠ ⊥ := by
  have e : (fn h w b).2 (ix2 t k) = Ideal.cmp .ogt (selected h w b (ix2 t k)) ⊥ := by
    rw [← neg_inf]
    rfl
  rw [e, selected_apply] at hm
  intro hb
  rw [hb] at hm
  simp [Ideal.cmp] at hm

end mask

end Cert.Proof

end
-- ==== Proof.Claims.lean ====
/-
  The claims that are not launches alone: the reference's frame, and the two claims that the kernel's results are the
  reference's.
-/
module

public import proofs.«01_k».proof.Defs
public import proofs.«01_k».proof.Proof.Arrays
public import proofs.«01_k».proof.Proof.Conditions
public import Idealize.ShloMosaic.Lib.Quiescent

@[expose] public section

set_option maxRecDepth 16384

noncomputable section

namespace Cert.Proof

open Idealize.ShloMosaic Idealize.ShloMosaic.TcCoe Idealize.SL.Sem

section reference
open Cert.ReferenceIdeal Cert.ReferenceIdeal.Gen
variable (m : (ℓ : Loc nD τ sig) → Buf (Elt Ideal) ℓ) (ρ : Dev nD → PrngReg)

/-- The reference runs, its arguments end unchanged and every counter ends at zero. -/
theorem reference_frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2.2, sem_eq_zero_of_no_sems (by decide) r.2⟩) (Value.run m ρ)

/-- The logits of token `t` on device `c`, of the reference's arguments. -/
abbrev refLogit (c : Dev nD) (t : Fin 32768) : Fin 64 → EReal :=
  logit (m ((c : Thread nD τ).loc main_arg0)) (m ((c : Thread nD τ).loc main_arg1)) (m ((c : Thread nD τ).loc main_arg2)) t

/-- What the reference's run leaves. -/
theorem reference_run : θ_run defs (onTc (τ := τ) (main (F := Ideal))) ⟨m, fun _ => 0, ρ⟩ fun r => ∀ c : Dev nD,
      r.2.mem ((c : Thread nD τ).loc main_v15) = (fun i => pickedWeight (refLogit m c (i 0)) (i 1))
      ∧ r.2.mem ((c : Thread nD τ).loc main_indices) = (fun i => pickedIndex (refLogit m c (i 0)) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  have cell (i : S32768x8.Idx) : i = ix2 (i 0) (i 1) := by funext a; fin_cases a <;> rfl
  refine (θ_run defs _ _).mono (fun r h c => ⟨(h c).1.trans (funext fun i => ?_), (h c).2.1.trans (funext fun i => ?_), (h c).2.2⟩) (Value.run m ρ)
  · rw [cell i]
    exact reference_weights _ _ _ (i 0) (i 1)
  · rw [cell i]
    exact reference_indices _ _ _ (i 0) (i 1)

end reference

/-- Memories that agree on the arguments have the same logits. -/
theorem same_logits (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h : m' ((c : Thread ReferenceIdeal.nD ReferenceIdeal.τ).loc ReferenceIdeal.main_arg0) = m ((c : Thread KernelIdeal.nD KernelIdeal.τ).loc KernelIdeal.main_arg0)
      ∧ m' ((c : Thread ReferenceIdeal.nD ReferenceIdeal.τ).loc ReferenceIdeal.main_arg1) = m ((c : Thread KernelIdeal.nD KernelIdeal.τ).loc KernelIdeal.main_arg1)
      ∧ m' ((c : Thread ReferenceIdeal.nD ReferenceIdeal.τ).loc ReferenceIdeal.main_arg2) = m ((c : Thread KernelIdeal.nD KernelIdeal.τ).loc KernelIdeal.main_arg2)) :
    refLogit m' c = tokenLogit m c := by
  funext t
  unfold refLogit tokenLogit
  rw [h.1, h.2.1, h.2.2]

/-- With finite arguments both results are the reference's. -/
theorem equal_when_finite : Cert.algebraic_KernelIdeal_ReferenceIdeal_pre_finite_inputs := by
  intro m g m' g' hpre hagree
  refine ⟨fun c i => pickedWeight (tokenLogit m c (i 0)) (i 1), fun c i => pickedIndex (tokenLogit m c (i 0)) (i 1), ?_, ?_⟩
  · refine θ_run_mono (run m g) fun r h c => ⟨(h c).1, (h c).2.1.trans (funext fun i => ?_), (h c).2.2⟩
    exact kernelIndex_eq _ _ (finite_logits _ _ _ (hpre c) _ _)
  · refine θ_run_mono (reference_run m' g') fun r h c => ⟨(h c).1.trans ?_, (h c).2.1.trans ?_, (h c).2.2⟩
    all_goals
      rw [same_logits m m' c (hagree c)]
      rfl

/-- Whatever the arguments, the weights are the reference's, and so is every index whose logit is above −∞. -/
theorem equal_above : Cert.algebraic_KernelIdeal_ReferenceIdeal_on_selected_above_minus_infinity := by
  intro m g m' g' _ hagree
  refine ⟨fun c i => pickedWeight (tokenLogit m c (i 0)) (i 1), fun c i => pickedIndex (tokenLogit m c (i 0)) (i 1), ?_, ?_⟩
  · refine θ_run_mono (run m g) fun r h c => ⟨fun i _ => congrFun (h c).1 i, fun i hi => (congrFun (h c).2.1 i).trans ?_, (h c).2.2⟩
    obtain ⟨t, k, rfl⟩ : ∃ (t : Fin 32768) (k : Fin 8), i = ix2 t k := ⟨i 0, i 1, by funext a; fin_cases a <;> rfl⟩
    exact kernelIndex_eq _ _ (mask_indices _ _ _ t k hi)
  · refine θ_run_mono (reference_run m' g') fun r h c =>
      ⟨fun i _ => (congrFun (h c).1 i).trans ?_, fun i _ => (congrFun (h c).2.1 i).trans ?_, (h c).2.2⟩
    all_goals rw [same_logits m m' c (hagree c)]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_inputs
public import proofs.«01_k».proof.Proof.Gen.On_selected_above_minus_infinity
public import proofs.«01_k».proof.Proof.Claims
public import Idealize.ShloMosaic.Adequacy
public import Idealize.ShloMosaic.Init

@[expose] public section

noncomputable section

namespace Cert.Proof

/-- Everything that `Defs.lean` claims. -/
theorem claim : Cert.Claim :=
  ⟨Cert.Kernel.Gen.facts, Cert.KernelIdeal.Gen.facts, Cert.ReferenceIdeal.Gen.facts, Cert.Pre_finite_inputs.Gen.facts,
    Cert.On_selected_above_minus_infinity.Gen.facts,
    fun m ρ _ => Cert.Kernel.Gen.frame m ρ,
    fun m ρ _ => Cert.KernelIdeal.Gen.frame m ρ,
    fun m ρ _ => Cert.KernelIdeal.Gen.frame m ρ,
    fun m ρ _ => reference_frame m ρ,
    fun m ρ _ => reference_frame m ρ,
    trivial,
    equal_when_finite,
    equal_above⟩

end Cert.Proof

end
